-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S48x128 Cert.KernelIdeal.S24x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x5120 : Shape := ⟨3, ![48, 1, 5120]⟩
abbrev S5120x6912 : Shape := ⟨2, ![5120, 6912]⟩
abbrev S_ : Shape := ⟨0, ![]⟩
abbrev S1 : Shape := ⟨1, ![1]⟩
abbrev S48x5120 : Shape := ⟨2, ![48, 5120]⟩
abbrev S48x27648 : Shape := ⟨2, ![48, 27648]⟩
abbrev S5120x256 : Shape := ⟨2, ![5120, 256]⟩
abbrev S48x1024 : Shape := ⟨2, ![48, 1024]⟩
abbrev S48x256 : Shape := ⟨2, ![48, 256]⟩
abbrev S48 : Shape := ⟨1, ![48]⟩
abbrev S48x1 : Shape := ⟨2, ![48, 1]⟩
abbrev S256x256 : Shape := ⟨2, ![256, 256]⟩
abbrev S64x256 : Shape := ⟨2, ![64, 256]⟩
abbrev S48x128 : Shape := ⟨2, ![48, 128]⟩
abbrev S24x128 : Shape := ⟨2, ![24, 128]⟩
abbrev S48x128x1 : Shape := ⟨3, ![48, 128, 1]⟩

abbrev nBuf : Space → Nat
  | .hbm => 6
  | .vmem => 5
  | .smem => 1
  | _ => 0

abbrev bufTy : (tb : Table) → Fin (tcTables nBuf tb) → BufTy
  | .hbm, ⟨0, _⟩ => ⟨S48x1x5120, .bf16⟩
  | .hbm, ⟨1, _⟩ => ⟨S5120x6912, .i8⟩
  | .hbm, ⟨2, _⟩ => ⟨S_, .f32⟩
  | .hbm, ⟨3, _⟩ => ⟨S1, .f32⟩
  | .hbm, ⟨4, _⟩ => ⟨S48x5120, .bf16⟩
  | .hbm, ⟨5, _⟩ => ⟨S48x27648, .bf16⟩
  | .local _ .vmem, ⟨0, _⟩ => ⟨S48x5120, .bf16⟩
  | .local _ .vmem, ⟨1, _⟩ => ⟨S5120x256, .i8⟩
  | .local _ .vmem, ⟨2, _⟩ => ⟨S5120x256, .i8⟩
  | .local _ .vmem, ⟨3, _⟩ => ⟨S48x1024, .bf16⟩
  | .local _ .vmem, ⟨4, _⟩ => ⟨S48x1024, .bf16⟩
  | .local _ .smem, ⟨0, _⟩ => ⟨S1, .f32⟩
  | _, _ => ⟨S48x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![27], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S48x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S48x1x5120 : Shape := ⟨3, ![48, 1, 5120]⟩
abbrev S5120x6912 : Shape := ⟨2, ![5120, 6912]⟩
abbrev S_ : Shape := ⟨0, ![]⟩
abbrev S48x5120 : Shape := ⟨2, ![48, 5120]⟩
abbrev S48 : Shape := ⟨1, ![48]⟩
abbrev S48x1 : Shape := ⟨2, ![48, 1]⟩
abbrev S48x6912 : Shape := ⟨2, ![48, 6912]⟩
abbrev S48x6912x1 : Shape := ⟨3, ![48, 6912, 1]⟩
abbrev S48x6912x4 : Shape := ⟨3, ![48, 6912, 4]⟩
abbrev S48x27648 : Shape := ⟨2, ![48, 27648]⟩

abbrev nBuf : Space → Nat
  | .hbm => 70
  | .vmem => 0
  | .smem => 0
  | _ => 0

abbrev bufTy : (tb : Table) → Fin (tcTables nBuf tb) → BufTy
  | .hbm, ⟨0, _⟩ => ⟨S48x1x5120, .bf16⟩
  | .hbm, ⟨1, _⟩ => ⟨S5120x6912, .i8⟩
  | .hbm, ⟨2, _⟩ => ⟨S_, .f32⟩
  | .hbm, ⟨3, _⟩ => ⟨S48x5120, .bf16⟩
  | .hbm, ⟨4, _⟩ => ⟨S48x5120, .f32⟩
  | .hbm, ⟨5, _⟩ => ⟨S_, .f32⟩
  | .hbm, ⟨6, _⟩ => ⟨S48, .f32⟩
  | .hbm, ⟨7, _⟩ => ⟨S48x1, .f32⟩
  | .hbm, ⟨8, _⟩ => ⟨S5120x6912, .i32⟩
  | .hbm, ⟨9, _⟩ => ⟨S_, .i32⟩
  | .hbm, ⟨10, _⟩ => ⟨S5120x6912, .i32⟩
  | .hbm, ⟨11, _⟩ => ⟨S5120x6912, .i32⟩
  | .hbm, ⟨12, _⟩ => ⟨S_, .i32⟩
  | .hbm, ⟨13, _⟩ => ⟨S5120x6912, .i32⟩
  | .hbm, ⟨14, _⟩ => ⟨S5120x6912, .i32⟩
  | .hbm, ⟨15, _⟩ => ⟨S5120x6912, .bf16⟩
  | .hbm, ⟨16, _⟩ => ⟨S48x6912, .f32⟩
  | .hbm, ⟨17, _⟩ => ⟨S48x6912, .f32⟩
  | .hbm, ⟨18, _⟩ => ⟨S48x6912, .f32⟩
  | .hbm, ⟨19, _⟩ => ⟨S48x6912, .f32⟩
  | .hbm, ⟨20, _⟩ => ⟨S48x6912, .f32⟩
  | .hbm, ⟨21, _⟩ => ⟨S48x6912, .bf16⟩
  | .hbm, ⟨22, _⟩ => ⟨S5120x6912, .i32⟩
  | .hbm, ⟨23, _⟩ => ⟨S_, .i32⟩
  | .hbm, ⟨24, _⟩ => ⟨S5120x6912, .i32⟩
  | .hbm, ⟨25, _⟩ => ⟨S5120x6912, .i32⟩
  | .hbm, ⟨26, _⟩ => ⟨S_, .i32⟩
  | .hbm, ⟨27, _⟩ => ⟨S5120x6912, .i32⟩
  | .hbm, ⟨28, _⟩ => ⟨S5120x6912, .i32⟩
  | .hbm, ⟨29, _⟩ => ⟨S5120x6912, .bf16⟩
  | .hbm, ⟨30, _⟩ => ⟨S48x6912, .f32⟩
  | .hbm, ⟨31, _⟩ => ⟨S48x6912, .f32⟩
  | .hbm, ⟨32, _⟩ => ⟨S48x6912, .f32⟩
  | .hbm, ⟨33, _⟩ => ⟨S48x6912, .f32⟩
  | .hbm, ⟨34, _⟩ => ⟨S48x6912, .f32⟩
  | .hbm, ⟨35, _⟩ => ⟨S48x6912, .bf16⟩
  | .hbm, ⟨36, _⟩ => ⟨S5120x6912, .i32⟩
  | .hbm, ⟨37, _⟩ => ⟨S_, .i32⟩
  | .hbm, ⟨38, _⟩ => ⟨S5120x6912, .i32⟩
  | .hbm, ⟨39, _⟩ => ⟨S5120x6912, .i32⟩
  | .hbm, ⟨40, _⟩ => ⟨S_, .i32⟩
  | .hbm, ⟨41, _⟩ => ⟨S5120x6912, .i32⟩
  | .hbm, ⟨42, _⟩ => ⟨S5120x6912, .i32⟩
  | .hbm, ⟨43, _⟩ => ⟨S5120x6912, .bf16⟩
  | .hbm, ⟨44, _⟩ => ⟨S48x6912, .f32⟩
  | .hbm, ⟨45, _⟩ => ⟨S48x6912, .f32⟩
  | .hbm, ⟨46, _⟩ => ⟨S48x6912, .f32⟩
  | .hbm, ⟨47, _⟩ => ⟨S48x6912, .f32⟩
  | .hbm, ⟨48, _⟩ => ⟨S48x6912, .f32⟩
  | .hbm, ⟨49, _⟩ => ⟨S48x6912, .bf16⟩
  | .hbm, ⟨50, _⟩ => ⟨S5120x6912, .i32⟩
  | .hbm, ⟨51, _⟩ => ⟨S_, .i32⟩
  | .hbm, ⟨52, _⟩ => ⟨S5120x6912, .i32⟩
  | .hbm, ⟨53, _⟩ => ⟨S5120x6912, .i32⟩
  | .hbm, ⟨54, _⟩ => ⟨S_, .i32⟩
  | .hbm, ⟨55, _⟩ => ⟨S5120x6912, .i32⟩
  | .hbm, ⟨56, _⟩ => ⟨S5120x6912, .i32⟩
  | .hbm, ⟨57, _⟩ => ⟨S5120x6912, .bf16⟩
  | .hbm, ⟨58, _⟩ => ⟨S48x6912, .f32⟩
  | .hbm, ⟨59, _⟩ => ⟨S48x6912, .f32⟩
  | .hbm, ⟨60, _⟩ => ⟨S48x6912, .f32⟩
  | .hbm, ⟨61, _⟩ => ⟨S48x6912, .f32⟩
  | .hbm, ⟨62, _⟩ => ⟨S48x6912, .f32⟩
  | .hbm, ⟨63, _⟩ => ⟨S48x6912, .bf16⟩
  | .hbm, ⟨64, _⟩ => ⟨S48x6912x1, .bf16⟩
  | .hbm, ⟨65, _⟩ => ⟨S48x6912x1, .bf16⟩
  | .hbm, ⟨66, _⟩ => ⟨S48x6912x1, .bf16⟩
  | .hbm, ⟨67, _⟩ => ⟨S48x6912x1, .bf16⟩
  | .hbm, ⟨68, _⟩ => ⟨S48x6912x4, .bf16⟩
  | .hbm, ⟨69, _⟩ => ⟨S48x27648, .bf16⟩
  | _, _ => ⟨S48x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_3 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_5 : Ref sig .tc := ⟨.hbm, 51, rfl⟩
abbrev main_v41 : Ref sig .tc := ⟨.hbm, 52, rfl⟩
abbrev main_v42 : Ref sig .tc := ⟨.hbm, 53, rfl⟩
abbrev main_c_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Proof.Block.lean ====
/- What one block of the kernel stores, written once per operation chain instead of once per copy of it: the
   accumulator of a bit field over the twenty slices of the contraction, the finished field, and the piece that the
   lane interleave stores. The last theorem says that the pieces the run of the body found are these. -/
module

public import proofs.«01_k».proof.Proof.Gen.KernelIdeal.Frame
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-- The packed bytes with only the bits of `mask` kept, as numbers. -/
def codes (mask : BitVec 32) (w : Vec F S256x256 .i8) : FVec F S256x256 .bf16 :=
  uitofp .bf16 (bitcast S256x256 8 (andi (bitcast S64x256 32 w bitcasts_S256x256_w8_S64x256_w32)
    (broadcast S64x256 mask)) bitcasts_S64x256_w32_S256x256_w8)

/-- The accumulator of one bit field after its first `n` slices. -/
def acc (mask : BitVec 32) (X : Fin 20 → Vec F S48x256 .bf16) (W : Fin 20 → Vec F S256x256 .i8) :
    (n : ℕ) → n ≤ 20 → FVec F S48x256 .f32
  | 0, _ => broadcast S48x256 (Scalar.ofBits .f32 0x00000000#32 : F .f32)
  | n + 1, h => addf (acc mask X W n (Nat.le_of_succ_le h))
      (matmul dot_S48x256_S256x256_S48x256_1_0_0_1_n_n none
        (shapeCast S48x256 (X ⟨n, h⟩) shapeCasts_S48x256_S48x256) (codes mask (W ⟨n, h⟩))
        (constant S48x256 .f32 0x00000000#32))

/-- The row sums of the activations. -/
def rowSum (x : Vec F S48x5120 .bf16) : FVec F S48x1 .f32 :=
  shapeCast S48x1 (multiReduction .add [1] S48 (extf .f32 (shapeCast S48x5120 x shapeCasts_S48x5120_S48x5120)
    bitsLt_bf16_f32) 0x00000000#32 reduces_S48x5120_S48 (.inl rfl) rfl) shapeCasts_S48_S48x1

/-- One finished field: its accumulator scaled by the power of two with bits `b`, less the row sums, times the
    weights' scale. -/
def field (b : BitVec 32) (a : FVec F S48x256 .f32) (rs : FVec F S48x1 .f32) (sc : Elt F .f32) :
    FVec F S48x256 .f32 :=
  mulf (subf (mulf a (broadcast S48x256 (Scalar.ofBits .f32 b : F .f32)))
    (broadcastTo S48x256 rs broadcasts_S48x1_S48x256)) (broadcast S48x256 sc)

/-- The number of 32-lane groups before each lane. -/
def slot : IVec S24x128 32 :=
  have v606 : IVec S24x128 32 := iota .tc S24x128 32 [1] iota_S24x128_d1_w32
  have v608 : IVec S24x128 32 := divsi v606 (broadcast S24x128 32#32)
  have v611 : IVec S24x128 32 := extui 32 (cmpi .sgt v606 (broadcast S24x128 0#32)) natLt_1_32
  have v614 : IVec S24x128 32 := extui 32 (cmpi .slt v606 (broadcast S24x128 0#32)) natLt_1_32
  have v620 : BitVec 32 :=
    Scalar.subi (Scalar.extui (Scalar.cmpi .sgt (32#32) 0#32)) (Scalar.extui (Scalar.cmpi .slt (32#32) 0#32))
  have v622 : IVec S24x128 1 := cmpi .ne (subi v611 v614) (broadcast S24x128 v620)
  have v624 : IVec S24x128 32 := remsi v606 (broadcast S24x128 32#32)
  have v626 : IVec S24x128 1 := cmpi .ne v624 (broadcast S24x128 0#32)
  select (andi v622 v626) (subi v608 (broadcast S24x128 1#32)) v608

/-- The remainder by four that the wrapped modulo computes. -/
def mod4 (v : IVec S48x128 32) : IVec S48x128 32 :=
  have v646 : BitVec 32 := Scalar.select (Scalar.cmpi .eq (4#32) 0#32) (1#32) 4#32
  have v648 : IVec S48x128 32 := remsi v (broadcast S48x128 v646)
  have v650 : IVec S48x128 1 := cmpi .ne v648 (broadcast S48x128 0#32)
  have v652 : IVec S48x128 1 := cmpi .slt v648 (broadcast S48x128 0#32)
  have v655 : IVec S48x128 1 :=
    broadcastTo S48x128 (broadcast S48x128 (Scalar.cmpi .slt v646 0#32)) broadcasts_S48x128_S48x128
  select (andi (xori v652 v655) v650) (addi v648 (broadcast S48x128 v646)) v648

/-- The lane each output lane of piece `q` takes. -/
def src (q : BitVec 32) : IVec S48x128 32 :=
  have v644 : IVec S48x128 32 := iota .tc S48x128 32 [1] iota_S48x128_d1_w32
  have v680 : IVec S48x128 32 :=
    muli (mod4 (addi (broadcast S48x128 q) (mod4 v644))) (broadcast S48x128 32#32)
  have v682 : IVec S48x128 32 := divsi v644 (broadcast S48x128 4#32)
  have v685 : IVec S48x128 32 := extui 32 (cmpi .sgt v644 (broadcast S48x128 0#32)) natLt_1_32
  have v688 : IVec S48x128 32 := extui 32 (cmpi .slt v644 (broadcast S48x128 0#32)) natLt_1_32
  have v694 : BitVec 32 :=
    Scalar.subi (Scalar.extui (Scalar.cmpi .sgt (4#32) 0#32)) (Scalar.extui (Scalar.cmpi .slt (4#32) 0#32))
  have v696 : IVec S48x128 1 := cmpi .ne (subi v685 v688) (broadcast S48x128 v694)
  have v698 : IVec S48x128 32 := remsi v644 (broadcast S48x128 4#32)
  have v700 : IVec S48x128 1 := cmpi .ne v698 (broadcast S48x128 0#32)
  have v704 : IVec S48x128 32 := select (andi v696 v700) (subi v682 (broadcast S48x128 1#32)) v682
  have v705 : IVec S48x128 32 := addi v680 v704
  have v711 : IVec S48x128 32 :=
    select (cmpi .slt v705 (broadcast S48x128 0#32)) (addi v705 (broadcast S48x128 128#32)) v705
  shapeCast S48x128 (shapeCast S48x128x1 v711 shapeCasts_S48x128_S48x128x1) shapeCasts_S48x128x1_S48x128

/-- The rows of parity `p` of one field. -/
def half (p : Fin 2) (y : FVec F S48x128 .f32) : FVec F S24x128 .bf16 :=
  rowsOfParity p S24x128 (truncf .bf16 y bitsLt_bf16_f32) bitcasts_S48x128_w16_S24x128_w32

/-- The rows of parity `p` of the four fields, each rotated by 32 lanes more than the last, merged by lane group:
    field `j` supplies group `(q + j) mod 4`, the three sums being `q1`, `q2`, `q3`. -/
def merged (q1 q2 q3 : BitVec 32) (y0 y1 y2 y3 : FVec F S48x128 .f32) (p : Fin 2) : FVec F S24x128 .bf16 :=
  select (cmpi .eq slot (broadcast S24x128 q3)) (dynamicRotate 1 96#32 none (half p y3) rotates_S24x128_d1)
    (select (cmpi .eq slot (broadcast S24x128 q2)) (dynamicRotate 1 64#32 none (half p y2) rotates_S24x128_d1)
      (select (cmpi .eq slot (broadcast S24x128 q1)) (dynamicRotate 1 32#32 none (half p y1) rotates_S24x128_d1)
        (half p y0)))

/-- One stored piece: the merged fields with their lanes put in order. -/
def piece (q q1 q2 q3 : BitVec 32) (y0 y1 y2 y3 : FVec F S48x128 .f32) : FVec F S48x128 .bf16 :=
  truncf .bf16 (dynamicGather 1 (extf .f32 (interleaveRows S48x128 (merged q1 q2 q3 y0 y1 y2 y3 0)
    (merged q1 q2 q3 y0 y1 y2 y3 1) bitcasts_S48x128_w16_S24x128_w32) bitsLt_bf16_f32) (src q)) bitsLt_bf16_f32

/-- The left and right 128 columns of a field. -/
def left (y : FVec F S48x256 .f32) : FVec F S48x128 .f32 :=
  extractStridedSlice S48x128 ![0, 0] y slices_S48x256_o0_0_S48x128
/-- See `left`. -/
def right (y : FVec F S48x256 .f32) : FVec F S48x128 .f32 :=
  extractStridedSlice S48x128 ![0, 128] y slices_S48x256_o0_128_S48x128

/-- The eight pieces of a block, the last stored first, from the four finished fields. -/
def pieces (y0 y1 y2 y3 : FVec F S48x256 .f32) : List (View.Piece (Elt F) S48x1024 .bf16) :=
  [⟨Rect.unit ![0, 896] ![48, 128] inb_S48x1024_S48x128_0_896,
      piece 3#32 0#32 1#32 2#32 (right y0) (right y1) (right y2) (right y3)⟩,
    ⟨Rect.unit ![0, 768] ![48, 128] inb_S48x1024_S48x128_0_768,
      piece 2#32 3#32 0#32 1#32 (right y0) (right y1) (right y2) (right y3)⟩,
    ⟨Rect.unit ![0, 640] ![48, 128] inb_S48x1024_S48x128_0_640,
      piece 1#32 2#32 3#32 0#32 (right y0) (right y1) (right y2) (right y3)⟩,
    ⟨Rect.unit ![0, 512] ![48, 128] inb_S48x1024_S48x128_0_512,
      piece 0#32 1#32 2#32 3#32 (right y0) (right y1) (right y2) (right y3)⟩,
    ⟨Rect.unit ![0, 384] ![48, 128] inb_S48x1024_S48x128_0_384,
      piece 3#32 0#32 1#32 2#32 (left y0) (left y1) (left y2) (left y3)⟩,
    ⟨Rect.unit ![0, 256] ![48, 128] inb_S48x1024_S48x128_0_256,
      piece 2#32 3#32 0#32 1#32 (left y0) (left y1) (left y2) (left y3)⟩,
    ⟨Rect.unit ![0, 128] ![48, 128] inb_S48x1024_S48x128_0_128,
      piece 1#32 2#32 3#32 0#32 (left y0) (left y1) (left y2) (left y3)⟩,
    ⟨Rect.unit ![0, 0] ![48, 128] inb_S48x1024_S48x128_0_0,
      piece 0#32 1#32 2#32 3#32 (left y0) (left y1) (left y2) (left y3)⟩]

theorem inbX (k : Fin 20) : ∀ a, (![0, 256 * k.val] : Fin 2 → ℕ) a + S48x256.size a ≤ S48x5120.size a := by
  revert k; decide
theorem inbW (k : Fin 20) : ∀ a, (![256 * k.val, 0] : Fin 2 → ℕ) a + S256x256.size a ≤ S5120x256.size a := by
  revert k; decide

section
variable (arg1 : Memref sig .tc .smem S1 .f32) (harg1 : arg1.IsWhole)
  (arg2 : Memref sig .tc .vmem S48x5120 .bf16) (harg2 : arg2.IsWhole)
  (arg3 : Memref sig .tc .vmem S5120x256 .i8) (harg3 : arg3.IsWhole)
  (x0 : Vec F S1 .f32) (x1 : Vec F S48x5120 .bf16) (x2 : Vec F S5120x256 .i8)

/-- Slice `k` of the activations as the body loads it. -/
def loadX (k : Fin 20) : Vec F S48x256 .bf16 :=
  View.readAt (Elt F) arg2.view (Rect.unit (s := S48x5120) ![0, 256 * k.val] S48x256.size (inbX k)).toLoadRect (harg2.unread x1)
/-- Slice `k` of the packed weights as the body loads it. -/
def loadW (k : Fin 20) : Vec F S256x256 .i8 :=
  View.readAt (Elt F) arg3.view (Rect.unit (s := S5120x256) ![256 * k.val, 0] S256x256.size (inbW k)).toLoadRect (harg3.unread x2)
/-- All the activations as the body loads them. -/
def loadAll : Vec F S48x5120 .bf16 :=
  View.readAt (Elt F) arg2.view (Rect.unit (s := S48x5120) ![0, 0] S48x5120.size inb_S48x5120_S48x5120_0_0).toLoadRect
    (harg2.unread x1)
/-- The scale as the body loads it. -/
def loadScale : Elt F .f32 :=
  View.readAt (Elt F) arg1.view (Rect.unit (s := S1) ![0] S1.size inb_S1_S1_0).toLoadRect (harg1.unread x0)
    (Shape.Idx.first (numel1_S1.symm ▸ Nat.one_pos))

/-- A finished field of the block, from the loads. -/
def loaded (mask b : BitVec 32) : FVec F S48x256 .f32 :=
  field b (acc mask (loadX arg2 harg2 x1) (loadW arg3 harg3 x2) 20 le_rfl) (rowSum (loadAll arg2 harg2 x1))
    (loadScale arg1 harg1 x0)

/-- The pieces the body stores, from the loads. -/
def stored : List (View.Piece (Elt F) S48x1024 .bf16) :=
  pieces (loaded arg1 harg1 arg2 harg2 arg3 harg3 x0 x1 x2 50529027#32 0x3F800000#32)
    (loaded arg1 harg1 arg2 harg2 arg3 harg3 x0 x1 x2 202116108#32 0x3E800000#32)
    (loaded arg1 harg1 arg2 harg2 arg3 harg3 x0 x1 x2 808464432#32 0x3D800000#32)
    (loaded arg1 harg1 arg2 harg2 arg3 harg3 x0 x1 x2 3233857728#32 0x3C800000#32)

/-- The pieces of the body's run are the ones written above. -/
theorem run_pieces (c : Dev nD) (i : grid0.Coords) (arg4 : Memref sig .tc .vmem S48x1024 .bf16)
    (harg4 : arg4.IsWhole) :
    (kernelRun0_A c i arg1 harg1 arg2 harg2 arg3 harg3 arg4 harg4 x0 x1 x2).1
      = stored arg1 harg1 arg2 harg2 arg3 harg3 x0 x1 x2 := by
  sl_kernel_rfl

end

end Cert.KernelIdeal.Block

end
-- ==== Proof.Spec.lean ====
/- What one entry of the result is, as plain mathematics: four two-bit codes to a byte, a code being one more than the
   ternary weight it stands for. -/
module

public import Idealize.ShloMosaic.PureOps.Ideal

@[expose] public section

noncomputable section

namespace Cert.Spec

/-- Two-bit code `j` of a packed byte. -/
def code (j : Fin 4) (b : BitVec 8) : ℕ := b.toNat / 4 ^ j.val % 4

/-- One entry of the result: a row of activations against column codes, less the row's sum, times the scale. -/
def entry (x : Fin 5120 → EReal) (w : Fin 5120 → BitVec 8) (sc : EReal) (j : Fin 4) : EReal :=
  (∑ k, x k * ((code j (w k) : ℕ) : EReal) - ∑ k, x k) * sc

/-- A factor that is not negative and not infinite goes into a sum. -/
theorem sum_mul_const {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

end Cert.Spec

end
-- ==== Proof.Codes.lean ====
/- The two-bit codes of a packed byte: what the masked words hold, and the sum of products that an accumulator holds. -/
module

public import proofs.«01_k».proof.Proof.Block
public import proofs.«01_k».proof.Proof.Spec
public import Idealize.ShloMosaic.PureOps.Ideal
public import Idealize.ShloMosaic.Lib.KernelVsHost
public import Idealize.ShloMosaic.Lib.BitcastFour

@[expose] public section

set_option maxRecDepth 16384

noncomputable section

namespace Cert.KernelIdeal.Block

open Cert.KernelIdeal Cert.KernelIdeal.Gen Idealize.ShloMosaic Idealize.ShloMosaic.TcCoe Idealize.SL.Sem
open Cert.Spec (code)

/-- The word that repeats the mask of code `j` in each of its four bytes. -/
def maskOf (j : Fin 4) : BitVec 32 := 50529027#32 <<< (2 * j.val)

/-- The mask of code `j` in one byte. -/
def byteMask (j : Fin 4) : BitVec 8 := 3#8 <<< (2 * j.val)

/-- A masked byte is its code, times the place of the code. -/
theorem masked_toNat (j : Fin 4) (b : BitVec 8) : (b &&& byteMask j).toNat = 4 ^ j.val * code j b := by
  have key : ∀ (j : Fin 4) (b : Fin 256), (BitVec.ofFin b &&& byteMask j).toNat = 4 ^ j.val * code j (BitVec.ofFin b) := by
    decide +kernel
  exact key j b.toFin

/-- Each byte of the repeated mask is the mask of one byte. -/
theorem maskOf_getLsbD (j : Fin 4) (a : Fin 4) (q : Fin 8) :
    (maskOf j).getLsbD (8 * a.val + q.val) = (byteMask j).getLsbD q.val := by
  revert j a q
  decide +kernel

/-- The bytes of the masked words are the masked bytes. -/
theorem masked_bytes (j : Fin 4) (w : Vec Ideal S256x256 .i8) (k n : Fin 256) :
    bitcast S256x256 8 (andi (bitcast S64x256 32 w bitcasts_S256x256_w8_S64x256_w32)
      (broadcast S64x256 (maskOf j))) bitcasts_S64x256_w32_S256x256_w8 (ix2 k n) = w (ix2 k n) &&& byteMask j := by
  apply BitVec.eq_of_getLsbD_eq
  intro q hq
  rw [bitcast_getLsbD _ _ _ q hq (by decide)]
  have hrow : S256x256.row (ix2 k n) = k.val := rfl
  have hidx : (bitcasts_S64x256_w32_S256x256_w8).srcIdx (ix2 k n) ((S256x256.row (ix2 k n) * 8 + q) / 32)
      (fun a ha => (Nat.div_lt_iff_lt_mul (by decide)).2 ((bitcasts_S64x256_w32_S256x256_w8).pos_lt (ix2 k n) q hq a ha))
      = ix2 ⟨k.val / 4, by omega⟩ n := by
    funext c
    match c with
    | ⟨0, _⟩ => exact Fin.ext (((bitcasts_S64x256_w32_S256x256_w8).srcIdx_row _ _ _ ⟨0, Nat.zero_lt_two⟩ rfl).trans
        (by rw [hrow]; show _ = k.val / 4; omega))
    | ⟨1, _⟩ => exact Fin.ext ((bitcasts_S64x256_w32_S256x256_w8).srcIdx_other _ _ _ ⟨1, Nat.one_lt_two⟩
        (by show ¬ 1 + 2 = 2; omega))
  rw [hidx]
  have hpos : (S256x256.row (ix2 k n) * 8 + q) % 32 = 8 * (k.val % 4) + q := by rw [hrow]; omega
  rw [hpos]
  show (bitcast S64x256 32 w bitcasts_S256x256_w8_S64x256_w32 (ix2 ⟨k.val / 4, by omega⟩ n) &&& maskOf j).getLsbD _ = _
  rw [BitVec.getLsbD_and, BitVec.getLsbD_and, maskOf_getLsbD j ⟨k.val % 4, Nat.mod_lt _ (by norm_num)⟩ ⟨q, hq⟩]
  refine congrArg₂ (· && ·) ((bitcast_8_32_getLsbD_ix2 w bitcasts_S256x256_w8_S64x256_w32 ⟨k.val / 4, by omega⟩ n
    (8 * (k.val % 4) + q) (by omega) k (by dsimp only; omega)).trans ?_) rfl
  congr 1
  omega

/-- One masked code as a number. -/
theorem codes_apply (j : Fin 4) (w : Vec Ideal S256x256 .i8) (k n : Fin 256) :
    codes (F := Ideal) (maskOf j) w (ix2 k n) = ((4 ^ j.val * code j (w (ix2 k n)) : ℕ) : EReal) := by
  have h := masked_bytes j w k n
  unfold codes
  rw [← masked_toNat, ← h]
  rfl

/-- The accumulator of code `j` after `n` slices is the sum of the products so far. -/
theorem acc_apply (j : Fin 4) (X : Fin 20 → Vec Ideal S48x256 .bf16) (W : Fin 20 → Vec Ideal S256x256 .i8)
    (n : ℕ) (hn : n ≤ 20) (r : Fin 48) (c : Fin 256) :
    acc (F := Ideal) (maskOf j) X W n hn (ix2 r c)
      = ∑ k : Fin n, ∑ i : Fin 256, (X ⟨k.val, by omega⟩ (ix2 r i) : EReal)
          * ((4 ^ j.val * code j (W ⟨k.val, by omega⟩ (ix2 i c)) : ℕ) : EReal) := by
  induction n with
  | zero =>
    unfold acc
    pointwise
    simp
  | succ n ih =>
    unfold acc
    rw [Fin.sum_univ_castSucc]
    have := ih (Nat.le_of_succ_le hn)
    pointwise [codes_apply]
    rw [this]
    rfl

end Cert.KernelIdeal.Block

end
-- ==== Proof.Lanes.lean ====
/- The lane interleave of one piece: which field and which of its lanes each output lane holds. -/
module

public import proofs.«01_k».proof.Proof.Block
public import Idealize.ShloMosaic.PureOps.Ideal
public import Idealize.ShloMosaic.Lib.KernelVsHost

@[expose] public section

set_option maxRecDepth 16384

noncomputable section

namespace Cert.KernelIdeal.Block

open Cert.KernelIdeal Cert.KernelIdeal.Gen Idealize.ShloMosaic Idealize.ShloMosaic.TcCoe Idealize.SL.Sem

/-- `slot` at a lane is the lane's 32-lane group. -/
theorem slot_apply (h : Fin 24) (s : Fin 128) : slot (ix2 h s) = BitVec.ofNat 32 (s.val / 32) := by
  unfold slot
  pointwise
  revert s
  decide +kernel

/-- `src` at a lane, for each of the four pieces. -/
theorem src_apply (q : Fin 4) (r : Fin 48) (l : Fin 128) :
    src (BitVec.ofNat 32 q.val) (ix2 r l) = BitVec.ofNat 32 ((q.val + l.val % 4) % 4 * 32 + l.val / 4) := by
  unfold src mod4
  pointwise
  revert q l
  decide +kernel

/-- One half of one rotated field at a lane. -/
theorem rotated_apply (p : Fin 2) (y : FVec Ideal S48x128 .f32) (h : Fin 24) (s : Fin 128) (a : Fin 128) :
    dynamicRotate 1 (BitVec.ofNat 32 a.val) none (half p y) rotates_S24x128_d1 (ix2 h s)
      = y (ix2 ⟨2 * h.val + p.val, by omega⟩ ⟨(s.val + 128 - a.val) % 128, Nat.mod_lt _ (by norm_num)⟩) := by
  unfold half
  pointwise
  have ha := a.isLt
  simp [Nat.mod_eq_of_lt, show a.val < 4294967296 by omega]

/-- A selection by lane group, at a lane. -/
theorem select_slot_apply (b : ℕ) (hb : b < 4) (x y : FVec Ideal S24x128 .bf16) (h : Fin 24) (s : Fin 128) :
    select (cmpi .eq slot (broadcast S24x128 (BitVec.ofNat 32 b))) x y (ix2 h s)
      = if s.val / 32 = b then x (ix2 h s) else y (ix2 h s) := by
  pointwise
  have hs : s.val / 32 < 4 := by omega
  have : (BitVec.ofNat 32 (s.val / 32) = BitVec.ofNat 32 b) ↔ s.val / 32 = b := by
    constructor
    · intro e
      have := congrArg BitVec.toNat e
      simpa [Nat.mod_eq_of_lt, show s.val / 32 < 4294967296 by omega, show b < 4294967296 by omega] using this
    · intro e; rw [e]
  rw [slot_apply]
  by_cases e : s.val / 32 = b
  · rw [if_pos e, e]
    simp [IntOp.cmpi, Scalar.select]
  · rw [if_neg e]
    have ne := beq_eq_false_iff_ne.mpr (mt this.mp e)
    simp only [IntOp.cmpi, Scalar.select, ne]
    rfl

/-- The merged rows of parity `p` of piece `q`: lane group `g` holds field `(g - q) mod 4`, moved right by 32 lanes
    for each field. -/
theorem merged_apply (q : Fin 4) (Y : Fin 4 → FVec Ideal S48x128 .f32) (p : Fin 2) (h : Fin 24) (s : Fin 128)
    (j : Fin 4) (hj : s.val / 32 = (q.val + j.val) % 4) :
    merged (BitVec.ofNat 32 ((q.val + 1) % 4)) (BitVec.ofNat 32 ((q.val + 2) % 4)) (BitVec.ofNat 32 ((q.val + 3) % 4))
        (Y 0) (Y 1) (Y 2) (Y 3) p (ix2 h s)
      = Y j (ix2 ⟨2 * h.val + p.val, by omega⟩ ⟨(s.val + 128 - 32 * j.val) % 128, Nat.mod_lt _ (by norm_num)⟩) := by
  have h0 : half p (Y 0) (ix2 h s) = Y 0 (ix2 ⟨2 * h.val + p.val, by omega⟩ s) := by unfold half; pointwise
  have h1 := rotated_apply p (Y 1) h s 32
  have h2 := rotated_apply p (Y 2) h s 64
  have h3 := rotated_apply p (Y 3) h s 96
  unfold merged
  rw [select_slot_apply _ (by omega), select_slot_apply _ (by omega), select_slot_apply _ (by omega)]
  simp only [hj]
  fin_cases j
  · rw [if_neg (by dsimp; omega), if_neg (by dsimp; omega), if_neg (by dsimp; omega), h0]
    congr 2
    exact Fin.ext (by dsimp; omega)
  · rw [if_neg (by dsimp; omega), if_neg (by dsimp; omega), if_pos (by dsimp)]
    exact h1
  · rw [if_neg (by dsimp; omega), if_pos (by dsimp)]
    exact h2
  · rw [if_pos (by dsimp)]
    exact h3

/-- One piece at an index: lane `l` holds field `l mod 4` at the piece's lane group's lane `l / 4`. -/
theorem piece_apply (q : Fin 4) (Y : Fin 4 → FVec Ideal S48x128 .f32) (r : Fin 48) (l : Fin 128) :
    piece (F := Ideal) (BitVec.ofNat 32 q.val) (BitVec.ofNat 32 ((q.val + 1) % 4)) (BitVec.ofNat 32 ((q.val + 2) % 4))
        (BitVec.ofNat 32 ((q.val + 3) % 4)) (Y 0) (Y 1) (Y 2) (Y 3) (ix2 r l)
      = Y ⟨l.val % 4, Nat.mod_lt _ (by norm_num)⟩ (ix2 r ⟨32 * q.val + l.val / 4, by omega⟩) := by
  unfold piece
  pointwise [src_apply]
  have hl := l.isLt
  have hr := r.isLt
  have hq := q.isLt
  have hsrc : (BitVec.ofNat 32 ((q.val + l.val % 4) % 4 * 32 + l.val / 4)).toNat % 128
      = (q.val + l.val % 4) % 4 * 32 + l.val / 4 := by
    rw [BitVec.toNat_ofNat, Nat.mod_eq_of_lt (a := _ % 4 * 32 + _) (by omega), Nat.mod_eq_of_lt (by omega)]
  have key := fun p : Fin 2 => merged_apply q Y p ⟨r.val / 2, by omega⟩
    ⟨(BitVec.ofNat 32 ((q.val + l.val % 4) % 4 * 32 + l.val / 4)).toNat % 128, Nat.mod_lt _ (by norm_num)⟩
    ⟨l.val % 4, Nat.mod_lt _ (by norm_num)⟩ (by dsimp only; rw [hsrc]; omega)
  have lane : ∀ p : Fin 2, r.val % 2 = p.val →
      Y ⟨l.val % 4, Nat.mod_lt _ (by norm_num)⟩ (ix2 ⟨2 * (r.val / 2) + p.val, by omega⟩
          ⟨((BitVec.ofNat 32 ((q.val + l.val % 4) % 4 * 32 + l.val / 4)).toNat % 128 + 128 - 32 * (l.val % 4)) % 128,
            Nat.mod_lt _ (by norm_num)⟩)
        = Y ⟨l.val % 4, Nat.mod_lt _ (by norm_num)⟩ (ix2 r ⟨32 * q.val + l.val / 4, by omega⟩) := by
    intro p hp
    congr 2
    · exact Fin.ext (by dsimp only; omega)
    · exact Fin.ext (by dsimp only; rw [hsrc]; omega)
  split
  · next h => rw [key 0]; exact lane 0 h
  · next h => rw [key 1]; exact lane 1 (by dsimp; omega)

end Cert.KernelIdeal.Block

end
-- ==== Proof.Fields.lean ====
/- What one block computes: a finished field is the entry of the mathematics, and the stored block holds the four
   fields side by side, column `n` being field `n mod 4` at packed column `n / 4`. -/
module

public import proofs.«01_k».proof.Proof.Codes
public import proofs.«01_k».proof.Proof.Lanes
public import Idealize.ShloMosaic.Lib.IdealHost

@[expose] public section

set_option maxRecDepth 16384

noncomputable section

namespace Cert.KernelIdeal.Block

open Cert.KernelIdeal Cert.KernelIdeal.Gen Idealize.ShloMosaic Idealize.ShloMosaic.TcCoe Idealize.SL.Sem
open Cert.Spec (code entry sum_mul_const)

/-- The bits of one over four to the `j`. -/
def quarter : Fin 4 → BitVec 32 := ![0x3F800000#32, 0x3E800000#32, 0x3D800000#32, 0x3C800000#32]

theorem quarter_value (j : Fin 4) : Ideal.ofBits .f32 (quarter j) = (((1 : ℝ) / 4 ^ j.val : ℝ) : EReal) := by
  fin_cases j <;> simp [quarter, Ideal.ofBits, Ideal.ieee, -EReal.coe_mul] <;> norm_num

/-- The power of two undoes the code's place. -/
theorem unplace (j : Fin 4) (n : ℕ) :
    ((4 ^ j.val * n : ℕ) : EReal) * (((1 : ℝ) / 4 ^ j.val : ℝ) : EReal) = ((n : ℕ) : EReal) := by
  rw [← EReal.coe_natCast, ← EReal.coe_natCast, ← EReal.coe_mul]
  congr 1
  push_cast
  field_simp

section
variable (arg1 : Memref sig .tc .smem S1 .f32) (harg1 : arg1.IsWhole)
  (arg2 : Memref sig .tc .vmem S48x5120 .bf16) (harg2 : arg2.IsWhole)
  (arg3 : Memref sig .tc .vmem S5120x256 .i8) (harg3 : arg3.IsWhole)
  (x0 : Vec Ideal S1 .f32) (x1 : Vec Ideal S48x5120 .bf16) (x2 : Vec Ideal S5120x256 .i8)

theorem loadX_apply (k : Fin 20) (r : Fin 48) (i : Fin 256) :
    loadX arg2 harg2 x1 k (ix2 r i) = x1 (ix2 r ⟨k.val * 256 + i.val, by omega⟩) := by
  unfold loadX
  rw [View.readAt_eq_ld, harg2.read_unread]
  refine View.ld_unit_apply_of _ _ _ _ _ _ fun a => ?_
  fin_cases a
  · show r.val = 0 + r.val; omega
  · show k.val * 256 + i.val = 256 * k.val + i.val; omega

theorem loadW_apply (k : Fin 20) (i c : Fin 256) :
    loadW arg3 harg3 x2 k (ix2 i c) = x2 (ix2 ⟨k.val * 256 + i.val, by omega⟩ c) := by
  unfold loadW
  rw [View.readAt_eq_ld, harg3.read_unread]
  refine View.ld_unit_apply_of _ _ _ _ _ _ fun a => ?_
  fin_cases a
  · show k.val * 256 + i.val = 256 * k.val + i.val; omega
  · show c.val = 0 + c.val; omega

theorem loadAll_eq : loadAll arg2 harg2 x1 = x1 := by
  unfold loadAll
  rw [View.readAt_eq_ld, harg2.read_unread]
  exact View.ld_unit_lit _ _ (by decide)

theorem loadScale_eq : loadScale arg1 harg1 x0 = x0 (ix1 0) := by
  unfold loadScale
  rw [View.readAt_eq_ld, harg1.read_unread]
  refine View.ld_unit_apply_of _ _ _ _ _ _ fun a => ?_
  fin_cases a
  rfl

theorem rowSum_apply (r : Fin 48) (u : Fin 1) : rowSum (F := Ideal) x1 (ix2 r u) = ∑ k : Fin 5120, (x1 (ix2 r k) : EReal) := by
  unfold rowSum
  pointwise

/-- A finished field of the block is the entry of the mathematics. -/
theorem loaded_apply (j : Fin 4) (r : Fin 48) (c : Fin 256) :
    loaded arg1 harg1 arg2 harg2 arg3 harg3 x0 x1 x2 (maskOf j) (quarter j) (ix2 r c)
      = entry (fun k => x1 (ix2 r k)) (fun k => x2 (ix2 k c)) (x0 (ix1 0)) j := by
  have hs : (∑ k : Fin 20, ∑ i : Fin 256, (loadX arg2 harg2 x1 k (ix2 r i) : EReal)
        * ((4 ^ j.val * code j (loadW arg3 harg3 x2 k (ix2 i c)) : ℕ) : EReal))
        * (((1 : ℝ) / 4 ^ j.val : ℝ) : EReal)
      = ∑ k : Fin 5120, (x1 (ix2 r k) : EReal) * ((code j (x2 (ix2 k c)) : ℕ) : EReal) := by
    have h0 : (0 : EReal) ≤ (((1 : ℝ) / 4 ^ j.val : ℝ) : EReal) := EReal.coe_nonneg.mpr (by positivity)
    rw [sum_mul_const _ _ _ h0 (EReal.coe_ne_top _)]
    refine Eq.trans (Finset.sum_congr rfl fun k _ => sum_mul_const _ _ _ h0 (EReal.coe_ne_top _)) ?_
    refine Fin.sum_mul_add_congr (fun k i hl => ?_)
    rw [mul_assoc, unplace, loadX_apply, loadW_apply]
  unfold loaded field
  rw [loadAll_eq, loadScale_eq]
  pointwise [acc_apply, rowSum_apply]
  rw [quarter_value, hs]
  rfl

/-- What the block holds at row `r` and column `n`. -/
def blockEntry (r : Fin 48) (n : Fin 1024) : EReal :=
  entry (fun k => x1 (ix2 r k)) (fun k => x2 (ix2 k ⟨n.val / 4, by omega⟩)) (x0 (ix1 0))
    ⟨n.val % 4, Nat.mod_lt _ (by norm_num)⟩

/-- One stored piece at an index: the piece's columns start at `o`, which is 512 times its half `h` of the packed
    columns and 128 times its lane group `q`. -/
theorem stored_piece (h : Fin 2) (q : Fin 4) (Y : Fin 4 → FVec Ideal S48x128 .f32)
    (hY : ∀ (j : Fin 4) (r : Fin 48) (l : Fin 128), Y j (ix2 r l)
      = loaded arg1 harg1 arg2 harg2 arg3 harg3 x0 x1 x2 (maskOf j) (quarter j) (ix2 r ⟨128 * h.val + l.val, by omega⟩))
    (r : Fin 48) (l : Fin 128) :
    piece (F := Ideal) (BitVec.ofNat 32 q.val) (BitVec.ofNat 32 ((q.val + 1) % 4)) (BitVec.ofNat 32 ((q.val + 2) % 4))
        (BitVec.ofNat 32 ((q.val + 3) % 4)) (Y 0) (Y 1) (Y 2) (Y 3) (ix2 r l)
      = blockEntry x0 x1 x2 r ⟨512 * h.val + 128 * q.val + l.val, by omega⟩ := by
  rw [piece_apply, hY, loaded_apply]
  unfold blockEntry
  congr 1
  · funext k
    congr 2
    exact Fin.ext (by dsimp only; omega)
  · exact Fin.ext (by dsimp only; omega)

/-- The four fields' left or right columns. -/
def cut (h : Fin 2) (j : Fin 4) : FVec Ideal S48x128 .f32 :=
  (![left, right] : Fin 2 → FVec Ideal S48x256 .f32 → FVec Ideal S48x128 .f32) h
    (loaded arg1 harg1 arg2 harg2 arg3 harg3 x0 x1 x2 (maskOf j) (quarter j))

theorem cut_apply (h : Fin 2) (j : Fin 4) (r : Fin 48) (l : Fin 128) :
    cut arg1 harg1 arg2 harg2 arg3 harg3 x0 x1 x2 h j (ix2 r l)
      = loaded arg1 harg1 arg2 harg2 arg3 harg3 x0 x1 x2 (maskOf j) (quarter j)
          (ix2 r ⟨128 * h.val + l.val, by omega⟩) := by
  unfold cut
  generalize loaded arg1 harg1 arg2 harg2 arg3 harg3 x0 x1 x2 (maskOf j) (quarter j) = y
  fin_cases h
  · show left y (ix2 r l) = _
    unfold left
    pointwise
  · show right y (ix2 r l) = _
    unfold right
    pointwise

/-- The block's result array. -/
def blockVal : Vec Ideal S48x1024 .bf16 := fun y => blockEntry x0 x1 x2 (y 0) (y 1)

theorem inbP (h : Fin 2) (q : Fin 4) :
    ∀ a, (![0, 512 * h.val + 128 * q.val] : Fin 2 → ℕ) a + S48x128.size a ≤ S48x1024.size a := by
  revert h q; decide

/-- One piece of the block: half `h` of the packed columns, lane group `q`. -/
def pieceAt (h : Fin 2) (q : Fin 4) : View.Piece (Elt Ideal) S48x1024 .bf16 :=
  ⟨Rect.unit (s := S48x1024) ![0, 512 * h.val + 128 * q.val] S48x128.size (inbP h q),
    piece (F := Ideal) (BitVec.ofNat 32 q.val) (BitVec.ofNat 32 ((q.val + 1) % 4)) (BitVec.ofNat 32 ((q.val + 2) % 4))
      (BitVec.ofNat 32 ((q.val + 3) % 4)) (cut arg1 harg1 arg2 harg2 arg3 harg3 x0 x1 x2 h 0)
      (cut arg1 harg1 arg2 harg2 arg3 harg3 x0 x1 x2 h 1) (cut arg1 harg1 arg2 harg2 arg3 harg3 x0 x1 x2 h 2)
      (cut arg1 harg1 arg2 harg2 arg3 harg3 x0 x1 x2 h 3)⟩

/-- The stored pieces, by half and lane group. -/
theorem stored_eq : stored (F := Ideal) arg1 harg1 arg2 harg2 arg3 harg3 x0 x1 x2
    = [pieceAt arg1 harg1 arg2 harg2 arg3 harg3 x0 x1 x2 1 3, pieceAt arg1 harg1 arg2 harg2 arg3 harg3 x0 x1 x2 1 2,
      pieceAt arg1 harg1 arg2 harg2 arg3 harg3 x0 x1 x2 1 1, pieceAt arg1 harg1 arg2 harg2 arg3 harg3 x0 x1 x2 1 0,
      pieceAt arg1 harg1 arg2 harg2 arg3 harg3 x0 x1 x2 0 3, pieceAt arg1 harg1 arg2 harg2 arg3 harg3 x0 x1 x2 0 2,
      pieceAt arg1 harg1 arg2 harg2 arg3 harg3 x0 x1 x2 0 1, pieceAt arg1 harg1 arg2 harg2 arg3 harg3 x0 x1 x2 0 0] := by
  sl_kernel_rfl

/-- Each piece agrees with the block's result array where it lies. -/
theorem pieceAt_apply (h : Fin 2) (q : Fin 4) (x : S48x128.Idx) :
    (pieceAt arg1 harg1 arg2 harg2 arg3 harg3 x0 x1 x2 h q).2 x
      = blockVal x0 x1 x2 ((pieceAt arg1 harg1 arg2 harg2 arg3 harg3 x0 x1 x2 h q).1.emb x) := by
  obtain ⟨r, l, rfl⟩ : ∃ (r : Fin 48) (l : Fin 128), x = ix2 r l := ⟨_, _, eq_ix2 x⟩
  refine (stored_piece arg1 harg1 arg2 harg2 arg3 harg3 x0 x1 x2 h q (cut arg1 harg1 arg2 harg2 arg3 harg3 x0 x1 x2 h)
    (cut_apply arg1 harg1 arg2 harg2 arg3 harg3 x0 x1 x2 h) r l).trans ?_
  unfold blockVal
  congr 1
  · exact Fin.ext (by show r.val = 0 + 1 * r.val; omega)
  · exact Fin.ext (by show 512 * h.val + 128 * q.val + l.val = 512 * h.val + 128 * q.val + 1 * l.val; omega)

/-- What the body leaves in the result's buffer. -/
theorem out_eq (c : Dev nD) (i : grid0.Coords) (arg4 : Memref sig .tc .vmem S48x1024 .bf16) (harg4 : arg4.IsWhole) :
    out0_A_3 c i arg1 harg1 arg2 harg2 arg3 harg3 arg4 harg4 x0 x1 x2 = blockVal x0 x1 x2 := by
  funext y
  have hcov := cover0_A_3 c i arg1 harg1 arg2 harg2 arg3 harg3 arg4 harg4 x0 x1 x2 y
  unfold out0_A_3
  rw [View.read_writes_eq_canon _ _ _ (cover0_A_3 c i arg1 harg1 arg2 harg2 arg3 harg3 arg4 harg4 x0 x1 x2)]
  rw [run_pieces, stored_eq] at hcov ⊢
  refine View.canon_apply_of_pieces (blockVal x0 x1 x2) _ (fun p hp x => ?_) y hcov
  have hp' : ∃ h q, p = pieceAt arg1 harg1 arg2 harg2 arg3 harg3 x0 x1 x2 h q := by
    simp only [List.mem_cons, List.mem_nil_iff, or_false] at hp
    rcases hp with e | e | e | e | e | e | e | e <;> exact ⟨_, _, e⟩
  obtain ⟨h, q, rfl⟩ := hp'
  exact pieceAt_apply arg1 harg1 arg2 harg2 arg3 harg3 x0 x1 x2 h q x

end

end Cert.KernelIdeal.Block

end
-- ==== Proof.Array.lean ====
/- What the kernel's result array holds after the run: every block's entries, put together. -/
module

public import proofs.«01_k».proof.Proof.Fields
public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)
open Cert.Spec (entry)

variable (m : (ℓ : Loc nD τ sig) → Buf (Elt Ideal) ℓ) (ρ : Dev nD → PrngReg) (c : Dev nD)

/-- The result array, from the arguments. -/
def result : Buf (Elt Ideal) ((c : Thread nD τ).loc main_v2) := fun i =>
  entry (fun k => m ((c : Thread nD τ).loc main_arg0) (ix3 (i 0) 0 k))
    (fun k => m ((c : Thread nD τ).loc main_arg1) (ix2 k ⟨(i 1).val / 4, by have := (i 1).isLt; dsimp at this; omega⟩))
    (m ((c : Thread nD τ).loc main_arg2) ix0) ⟨(i 1).val % 4, Nat.mod_lt _ (by norm_num)⟩

theorem index0 : ∀ t : Fin cfg0.N, win0_0.index t = ![0] :=
  (by decide +kernel : ∀ t : Fin grid0.N, win0_0.index t = ![0])
theorem index1 : ∀ t : Fin cfg0.N, win0_1.index t = ![0, 0] :=
  (by decide +kernel : ∀ t : Fin grid0.N, win0_1.index t = ![0, 0])
theorem index2 : ∀ t : Fin cfg0.N, win0_2.index t = ![0, t.val] :=
  (by decide +kernel : ∀ t : Fin grid0.N, win0_2.index t = ![0, t.val])
theorem index3 : ∀ t : Fin cfg0.N, win0_3.index t = ![0, t.val] :=
  (by decide +kernel : ∀ t : Fin grid0.N, win0_3.index t = ![0, t.val])

theorem flushes : ∀ t : Fin cfg0.N, (cfg0.win 3).flush t = true :=
  (by decide +kernel : ∀ t : Fin grid0.N, (cfg0.win 3).flush t = true)

/-- The scale's block is the scale. -/
theorem iblk0 (t : Fin cfg0.N) : (iblk m c 0 t : Vec Ideal S1 .f32) (ix1 0) = m ((c : Thread nD τ).loc main_arg2) ix0 := by
  show V m c main_v0 _ = _
  entry_read
  show shapeCast S1 _ shapeCasts_S_S1 _ = _
  pointwise

/-- The activations' block is all of them. -/
theorem iblk1 (t : Fin cfg0.N) (r : Fin 48) (k : Fin 5120) :
    (iblk m c 1 t : Vec Ideal S48x5120 .bf16) (ix2 r k) = m ((c : Thread nD τ).loc main_arg0) (ix3 r 0 k) := by
  have e : (((cfg0.win 1).blk t).view.emb (ix2 r k) : S48x5120.Idx) = ix2 r k := by
    refine funext fun a => Fin.ext ?_
    blk_simp [index1]
    fin_cases a
    · show 0 * 48 + r.val = r.val; omega
    · show 0 * 5120 + k.val = k.val; omega
  show V m c main_v1 (((cfg0.win 1).blk t).view.emb (ix2 r k) : S48x5120.Idx) = _
  rw [e]
  entry_read
  show shapeCast S48x5120 _ shapeCasts_S48x1x5120_S48x5120 (ix2 r k) = _
  pointwise

/-- The packed weights' block `t` is columns `256 t` to `256 t + 255`. -/
theorem iblk2 (t : Fin cfg0.N) (k : Fin 5120) (n : Fin 256) (n' : Fin 6912) (hn : n'.val = 256 * t.val + n.val) :
    (iblk m c 2 t : Vec Ideal S5120x256 .i8) (ix2 k n) = m ((c : Thread nD τ).loc main_arg1) (ix2 k n') := by
  show V m c main_arg1 _ = _
  rw [V_main_arg1]
  refine congrArg _ (funext fun a => Fin.ext ?_)
  blk_simp [index2]
  fin_cases a
  · show 0 * 5120 + k.val = k.val; omega
  · show t.val * 256 + n.val = n'.val; omega

/-- Point `t`'s block is the result array's columns `1024 t` to `1024 t + 1023`. -/
theorem block_eq (t : Fin cfg0.N) (r : Fin 48) (n : Fin 1024) (n' : Fin 27648) (hn : n'.val = 1024 * t.val + n.val) :
    outsAt0 m c t (ix2 r n) = result m c (ix2 r n') := by
  unfold outsAt0
  rw [out_eq]
  show blockEntry _ _ _ r n = _
  unfold blockEntry result
  rw [iblk0]
  congr 1
  · funext k
    exact iblk1 m c t r k
  · funext k
    exact iblk2 m c t k _ _ (by show n'.val / 4 = 256 * t.val + n.val / 4; omega)
  · exact Fin.ext (by show n.val % 4 = n'.val % 4; omega)

/-- The result array after the run. -/
theorem array_eq : (dats m 0 c).arrAt 3 cfg0.N = result m c := by
  refine (dats m 0 c).arrAt_eq_of_covers 3 _ (by decide +kernel) fun t hf y => ?_
  blk_simp
  rw [after0_3]
  obtain ⟨r, n, rfl⟩ : ∃ (r : Fin 48) (n : Fin 1024), y = ix2 r n := ⟨_, _, eq_ix2 (n0 := 48) (n1 := 1024) y⟩
  have ht : t.val < 27 := lt_of_lt_of_eq t.isLt N_0
  refine (block_eq m c t r n ⟨1024 * t.val + n.val, by omega⟩ rfl).trans (congrArg _ (funext fun a => Fin.ext ?_))
  blk_simp [index3]
  fin_cases a
  · show r.val = 0 * 48 + r.val; omega
  · show 1024 * t.val + n.val = t.val * 1024 + n.val; omega

/-- The run: the result array at `result`, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (array_eq m c), (h c).2⟩) (Value.run_blocks m ρ)

end Cert.KernelIdeal.Block

end
-- ==== Proof.Reference.lean ====
/- What the reference computes, entry by entry. -/
module

public import proofs.«01_k».proof.Proof.Spec
public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Cert.Spec (entry code)

/-- A packed byte shifted right by twice the field's number and masked. -/
theorem word_toInt : ∀ (j : Fin 4) (b : BitVec 8),
    (IntOp.andi (IntOp.shrsi ArithUnit.host (b.setWidth 32) (BitVec.ofNat 32 (2 * j.val))) 3#32).toInt = (code j b : ℤ) := by
  unfold code
  decide +kernel

/-- One field's codes: the packed bytes shifted right by `s` and masked. -/
def codes (w : IVec S5120x6912 8) (s : BitVec 32) : FVec Ideal S5120x6912 .bf16 :=
  sitofp .bf16 (andi (Host.shrsi (extui 32 w natLt_8_32)
    (broadcastInDim S5120x6912 ![] bcast_S_S5120x6912 (constantI S_ 32 s)))
    (broadcastInDim S5120x6912 ![] bcast_S_S5120x6912 (constantI S_ 32 3#32)))

theorem codes_apply (w : IVec S5120x6912 8) (j : Fin 4) (k : Fin 5120) (n : Fin 6912) :
    codes w (BitVec.ofNat 32 (2 * j.val)) (ix2 k n) = ((code j (w (ix2 k n)) : ℕ) : EReal) := by
  unfold codes
  pointwise
  show (((IntOp.andi (IntOp.shrsi ArithUnit.host (BitVec.setWidth 32 (w (ix2 k n))) (BitVec.ofNat 32 (2 * j.val))) 3#32).toInt : ℝ) : EReal) = _
  rw [word_toInt]
  simp

/-- One field's columns of the result. -/
def part (x : FVec Ideal S48x1x5120 .bf16) (w : IVec S5120x6912 8) (sc : FVec Ideal S_ .f32) (s : BitVec 32) :
    FVec Ideal S48x6912 .bf16 :=
  truncf .bf16 (mulf (subf (Host.dotGeneral dot_S48x5120_S5120x6912_S48x6912_1_0_0_1_n_n none
      (shapeCast S48x5120 x shapeCasts_S48x1x5120_S48x5120) (codes w s))
    (broadcastInDim S48x6912 ![0, 1] bcast_S48x1_S48x6912_0_1 (broadcastInDim S48x1 ![0] bcast_S48_S48x1_0
      (Host.reduceAdd (extf .f32 (shapeCast S48x5120 x shapeCasts_S48x1x5120_S48x5120) bitsLt_bf16_f32)
        (constant S_ .f32 0x00000000#32) reducesTo_S48x5120_S48_d1 h_S_))))
    (broadcastInDim S48x6912 ![] bcast_S_S48x6912 sc)) bitsLt_bf16_f32

theorem part_apply (x : FVec Ideal S48x1x5120 .bf16) (w : IVec S5120x6912 8) (sc : FVec Ideal S_ .f32) (j : Fin 4)
    (r : Fin 48) (n : Fin 6912) :
    part x w sc (BitVec.ofNat 32 (2 * j.val)) (ix2 r n)
      = entry (fun k => x (ix3 r 0 k)) (fun k => w (ix2 k n)) (sc ix0) j := by
  unfold part entry
  pointwise [codes_apply]

variable (m : (ℓ : Loc nD τ sig) → Buf (Elt Ideal) ℓ) (c : Dev nD)

/-- The four fields' columns, side by side and laid out as one axis. -/
theorem res_eq : Value.res_out0 m c = shapeCast S48x27648 (Value.fn_main_v56
      (broadcastInDim S48x6912x1 ![0, 1] bcast_S48x6912_S48x6912x1_0_1 (part (m ((c : Thread nD τ).loc main_arg0)) (m ((c : Thread nD τ).loc main_arg1)) (m ((c : Thread nD τ).loc main_arg2)) 0#32))
      (broadcastInDim S48x6912x1 ![0, 1] bcast_S48x6912_S48x6912x1_0_1 (part (m ((c : Thread nD τ).loc main_arg0)) (m ((c : Thread nD τ).loc main_arg1)) (m ((c : Thread nD τ).loc main_arg2)) 2#32))
      (broadcastInDim S48x6912x1 ![0, 1] bcast_S48x6912_S48x6912x1_0_1 (part (m ((c : Thread nD τ).loc main_arg0)) (m ((c : Thread nD τ).loc main_arg1)) (m ((c : Thread nD τ).loc main_arg2)) 4#32))
      (broadcastInDim S48x6912x1 ![0, 1] bcast_S48x6912_S48x6912x1_0_1 (part (m ((c : Thread nD τ).loc main_arg0)) (m ((c : Thread nD τ).loc main_arg1)) (m ((c : Thread nD τ).loc main_arg2)) 6#32)))
      shapeCasts_S48x6912x4_S48x27648 := by
  show Value.res_main_v57 m c = _
  unfold Value.res_main_v57 Value.fn_main_v56 part codes
  rfl

/-- An entry of the reference's result. -/
theorem res_apply (r : Fin 48) (N : Fin 27648) : Value.res_out0 m c (ix2 r N)
    = entry (fun k => m ((c : Thread nD τ).loc main_arg0) (ix3 r 0 k))
      (fun k => m ((c : Thread nD τ).loc main_arg1) (ix2 k ⟨N.val / 4, by omega⟩))
      (m ((c : Thread nD τ).loc main_arg2) ix0) ⟨N.val % 4, Nat.mod_lt _ (by norm_num)⟩ := by
  rw [congrFun (res_eq m c) (ix2 r N)]
  unfold Value.fn_main_v56
  pointwise
  have hs : ∀ j : Fin 4, N.val % 4 = j.val →
      part (m ((c : Thread nD τ).loc main_arg0)) (m ((c : Thread nD τ).loc main_arg1)) (m ((c : Thread nD τ).loc main_arg2))
        (BitVec.ofNat 32 (2 * j.val)) (ix2 r ⟨N.val / 4, by omega⟩)
      = entry (fun k => m ((c : Thread nD τ).loc main_arg0) (ix3 r 0 k))
        (fun k => m ((c : Thread nD τ).loc main_arg1) (ix2 k ⟨N.val / 4, by omega⟩))
        (m ((c : Thread nD τ).loc main_arg2) ix0) ⟨N.val % 4, Nat.mod_lt _ (by norm_num)⟩ := fun j hj =>
    (part_apply _ _ _ j r _).trans (congrArg _ (Fin.ext hj.symm))
  have hN : N.val % 4 < 4 := Nat.mod_lt _ (by norm_num)
  by_cases h0 : N.val % 4 < 1
  · exact (dif_pos h0).trans (hs 0 (by show _ = 0; omega))
  refine (dif_neg h0).trans ?_
  by_cases h1 : N.val % 4 - 1 < 1
  · exact (dif_pos h1).trans (hs 1 (by show _ = 1; omega))
  refine (dif_neg h1).trans ?_
  by_cases h2 : N.val % 4 - 1 - 1 < 1
  · exact (dif_pos h2).trans (hs 2 (by show _ = 2; omega))
  · exact (dif_neg h2).trans (hs 3 (by show _ = 3; omega))

end Cert.ReferenceIdeal.Hand

end
-- ==== Proof.lean ====
/- The claims, put together: the frames are the generated runs' own; the rewrite is its rule's statement; the kernel's
   array (Array.lean) and the reference's (Reference.lean) are the same entries (Spec.lean) of the same arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Adequacy
public import Idealize.ShloMosaic.Lib.Bf16Pair
public import Idealize.ShloMosaic.Lib.Quiescent
public import Idealize.ShloMosaic.Init

@[expose] public section

noncomputable section

namespace Cert.Proof

open Idealize.ShloMosaic Idealize.ShloMosaic.TcCoe Idealize.SL.Sem

/-- The reference runs, leaves its arguments as they were, and declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From arguments that agree, the reference's result is the kernel's. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_out0 m' c = Cert.KernelIdeal.Block.result m c := by
  funext i
  obtain ⟨r, n, rfl⟩ : ∃ (r : Fin 48) (n : Fin 27648), i = ix2 r n := ⟨_, _, eq_ix2 (n0 := 48) (n1 := 27648) i⟩
  refine (Cert.ReferenceIdeal.Hand.res_apply m' c r n).trans ?_
  rw [h0, h1, h2]
  rfl

theorem algebraic : Cert.algebraic_KernelIdeal_ReferenceIdeal := fun m ρ m' ρ' _ hag =>
  ⟨fun c => Cert.KernelIdeal.Block.result m c, Cert.KernelIdeal.Block.run m ρ,
    (θ_run _ _ _).mono (fun _ h c => ⟨(h c).1.trans (results_agree m m' c (hag c).1 (hag c).2.1 (hag c).2.2), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference,
  IdealRules.bf16_pair.statement _ _, algebraic⟩

end Cert.Proof

end
